-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_in_range [hPre_finite_and_in_range : Cert.Pre_finite_and_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_in_range [hPre_finite_and_in_range : Cert.Pre_finite_and_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_and_in_range [hKernelIdeal : Cert.KernelIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_and_in_range [hReferenceIdeal : Cert.ReferenceIdeal.Facts] [hPre_finite_and_in_range : Cert.Pre_finite_and_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite_and_in_range [hKernelIdeal : Cert.KernelIdeal.Facts] [hReferenceIdeal : Cert.ReferenceIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_and_in_range : Cert.Pre_finite_and_in_range.Facts),
    quiescent_Kernel (hKernel := hKernel)
    ∧ quiescent_KernelIdeal (hKernelIdeal := hKernelIdeal)
    ∧ quiescent_KernelIdeal_pre_finite_and_in_range (hKernelIdeal := hKernelIdeal) (hPre_finite_and_in_range := hPre_finite_and_in_range)
    ∧ quiescent_ReferenceIdeal (hReferenceIdeal := hReferenceIdeal)
    ∧ quiescent_ReferenceIdeal_pre_finite_and_in_range (hReferenceIdeal := hReferenceIdeal) (hPre_finite_and_in_range := hPre_finite_and_in_range)
    ∧ preserves_Kernel_KernelIdeal
    ∧ algebraic_KernelIdeal_ReferenceIdeal_pre_finite_and_in_range (hKernelIdeal := hKernelIdeal) (hReferenceIdeal := hReferenceIdeal) (hPre_finite_and_in_range := hPre_finite_and_in_range)
-- ==== Pre_finite_and_in_range.lean ====
abbrev S2048x4096 : Shape := ⟨2, ![2048, 4096]⟩
abbrev S1x64x64x16 : Shape := ⟨4, ![1, 64, 64, 16]⟩
abbrev S16x64x64x1 : Shape := ⟨4, ![16, 64, 64, 1]⟩
abbrev S1 : Shape := ⟨1, ![1]⟩
abbrev S4096 : Shape := ⟨1, ![4096]⟩
abbrev S_ : Shape := ⟨0, ![]⟩

class Facts : Prop where
  bcast_S_S2048x4096 : S_.BroadcastsInDim S2048x4096 (![] : Fin 0 → Fin S2048x4096.rank)
  bcast_S_S1x64x64x16 : S_.BroadcastsInDim S1x64x64x16 (![] : Fin 0 → Fin S1x64x64x16.rank)
  bcast_S_S16x64x64x1 : S_.BroadcastsInDim S16x64x64x1 (![] : Fin 0 → Fin S16x64x64x1.rank)
  bcast_S_S1 : S_.BroadcastsInDim S1 (![] : Fin 0 → Fin S1.rank)
  bcast_S_S4096 : S_.BroadcastsInDim S4096 (![] : Fin 0 → Fin S4096.rank)

variable [Facts]

def fn_part2 {F : FTy → Type} [FloatOps F] (main_v4 : IVec S2048x4096 1) (main_v9 : IVec S1x64x64x16 1) (main_v14 : IVec S16x64x64x1 1) (main_v19 : IVec S1 1) (main_v24 : IVec S4096 1) (main_v29 : IVec S4096 1) (main_v31 : IVec S4096 1) (main_v33 : IVec S4096 1) : IVec S2048x4096 1 × IVec S1x64x64x16 1 × IVec S16x64x64x1 1 × IVec S1 1 × IVec S4096 1 × IVec S4096 1 × IVec S4096 1 :=
  let main_v34 : IVec S4096 1 := andi main_v31 main_v33
  (main_v4, main_v9, main_v14, main_v19, main_v24, main_v29, main_v34)

def fn_part1 {F : FTy → Type} [FloatOps F] (main_arg3 : FVec F S1 .f32) (main_arg4 : FVec F S4096 .f32) (main_arg6 : IVec S4096 32) (main_arg7 : IVec S4096 32) (main_v4 : IVec S2048x4096 1) (main_v9 : IVec S1x64x64x16 1) (main_v14 : IVec S16x64x64x1 1) (main_v16 : IVec S1 1) : IVec S2048x4096 1 × IVec S1x64x64x16 1 × IVec S16x64x64x1 1 × IVec S1 1 × IVec S4096 1 × IVec S4096 1 × IVec S4096 1 :=
  let main_cst_6 : FVec F S_ .f32 := constant S_ .f32 0x7F800000#32
  let main_v17 : FVec F S1 .f32 := broadcastInDim S1 ![] bcast_S_S1 main_cst_6
  let main_v18 : IVec S1 1 := cmpf .olt main_arg3 main_v17
  let main_v19 : IVec S1 1 := andi main_v16 main_v18
  let main_cst_7 : FVec F S_ .f32 := constant S_ .f32 0xFF800000#32
  let main_v20 : FVec F S4096 .f32 := broadcastInDim S4096 ![] bcast_S_S4096 main_cst_7
  let main_v21 : IVec S4096 1 := cmpf .ogt main_arg4 main_v20
  let main_cst_8 : FVec F S_ .f32 := constant S_ .f32 0x7F800000#32
  let main_v22 : FVec F S4096 .f32 := broadcastInDim S4096 ![] bcast_S_S4096 main_cst_8
  let main_v23 : IVec S4096 1 := cmpf .olt main_arg4 main_v22
  let main_v24 : IVec S4096 1 := andi main_v21 main_v23
  let main_c : IVec S_ 32 := constantI S_ 32 0#32
  let main_v25 : IVec S4096 32 := broadcastInDim S4096 ![] bcast_S_S4096 main_c
  let main_v26 : IVec S4096 1 := cmpi .sge main_arg6 main_v25
  let main_c_9 : IVec S_ 32 := constantI S_ 32 4096#32
  let main_v27 : IVec S4096 32 := broadcastInDim S4096 ![] bcast_S_S4096 main_c_9
  let main_v28 : IVec S4096 1 := cmpi .slt main_arg6 main_v27
  let main_v29 : IVec S4096 1 := andi main_v26 main_v28
  let main_c_10 : IVec S_ 32 := constantI S_ 32 0#32
  let main_v30 : IVec S4096 32 := broadcastInDim S4096 ![] bcast_S_S4096 main_c_10
  let main_v31 : IVec S4096 1 := cmpi .sge main_arg7 main_v30
  let main_c_11 : IVec S_ 32 := constantI S_ 32 4096#32
  let main_v32 : IVec S4096 32 := broadcastInDim S4096 ![] bcast_S_S4096 main_c_11
  let main_v33 : IVec S4096 1 := cmpi .slt main_arg7 main_v32
  fn_part2 (F := F) main_v4 main_v9 main_v14 main_v19 main_v24 main_v29 main_v31 main_v33

def fn {F : FTy → Type} [FloatOps F] (main_arg0 : FVec F S2048x4096 .f32) (main_arg1 : FVec F S1x64x64x16 .f32) (main_arg2 : FVec F S16x64x64x1 .f32) (main_arg3 : FVec F S1 .f32) (main_arg4 : FVec F S4096 .f32) (main_arg5 : FVec F S4096 .f32) (main_arg6 : IVec S4096 32) (main_arg7 : IVec S4096 32) : IVec S2048x4096 1 × IVec S1x64x64x16 1 × IVec S16x64x64x1 1 × IVec S1 1 × IVec S4096 1 × IVec S4096 1 × IVec S4096 1 :=
  let main_cst : FVec F S_ .f32 := constant S_ .f32 0xFF800000#32
  let main_v0 : FVec F S2048x4096 .f32 := broadcastInDim S2048x4096 ![] bcast_S_S2048x4096 main_cst
  let main_v1 : IVec S2048x4096 1 := cmpf .ogt main_arg0 main_v0
  let main_cst_0 : FVec F S_ .f32 := constant S_ .f32 0x7F800000#32
  let main_v2 : FVec F S2048x4096 .f32 := broadcastInDim S2048x4096 ![] bcast_S_S2048x4096 main_cst_0
  let main_v3 : IVec S2048x4096 1 := cmpf .olt main_arg0 main_v2
  let main_v4 : IVec S2048x4096 1 := andi main_v1 main_v3
  let main_cst_1 : FVec F S_ .f32 := constant S_ .f32 0xFF800000#32
  let main_v5 : FVec F S1x64x64x16 .f32 := broadcastInDim S1x64x64x16 ![] bcast_S_S1x64x64x16 main_cst_1
  let main_v6 : IVec S1x64x64x16 1 := cmpf .ogt main_arg1 main_v5
  let main_cst_2 : FVec F S_ .f32 := constant S_ .f32 0x7F800000#32
  let main_v7 : FVec F S1x64x64x16 .f32 := broadcastInDim S1x64x64x16 ![] bcast_S_S1x64x64x16 main_cst_2
  let main_v8 : IVec S1x64x64x16 1 := cmpf .olt main_arg1 main_v7
  let main_v9 : IVec S1x64x64x16 1 := andi main_v6 main_v8
  let main_cst_3 : FVec F S_ .f32 := constant S_ .f32 0xFF800000#32
  let main_v10 : FVec F S16x64x64x1 .f32 := broadcastInDim S16x64x64x1 ![] bcast_S_S16x64x64x1 main_cst_3
  let main_v11 : IVec S16x64x64x1 1 := cmpf .ogt main_arg2 main_v10
  let main_cst_4 : FVec F S_ .f32 := constant S_ .f32 0x7F800000#32
  let main_v12 : FVec F S16x64x64x1 .f32 := broadcastInDim S16x64x64x1 ![] bcast_S_S16x64x64x1 main_cst_4
  let main_v13 : IVec S16x64x64x1 1 := cmpf .olt main_arg2 main_v12
  let main_v14 : IVec S16x64x64x1 1 := andi main_v11 main_v13
  let main_cst_5 : FVec F S_ .f32 := constant S_ .f32 0xFF800000#32
  let main_v15 : FVec F S1 .f32 := broadcastInDim S1 ![] bcast_S_S1 main_cst_5
  let main_v16 : IVec S1 1 := cmpf .ogt main_arg3 main_v15
  fn_part1 (F := F) main_arg3 main_arg4 main_arg6 main_arg7 main_v4 main_v9 main_v14 main_v16
-- ==== Kernel.lean ====
abbrev S2048x4096 : Shape := ⟨2, ![2048, 4096]⟩
abbrev S1x64x64x16 : Shape := ⟨4, ![1, 64, 64, 16]⟩
abbrev S16x64x64x1 : Shape := ⟨4, ![16, 64, 64, 1]⟩
abbrev S1 : Shape := ⟨1, ![1]⟩
abbrev S4096 : Shape := ⟨1, ![4096]⟩
abbrev S64x64 : Shape := ⟨2, ![64, 64]⟩
abbrev S64x64x16 : Shape := ⟨3, ![64, 64, 16]⟩
abbrev S16x64x64 : Shape := ⟨3, ![16, 64, 64]⟩
abbrev S64x64x64x64 : Shape := ⟨4, ![64, 64, 64, 64]⟩
abbrev S64x1x64x1 : Shape := ⟨4, ![64, 1, 64, 1]⟩
abbrev S4096x4096 : Shape := ⟨2, ![4096, 4096]⟩
abbrev S_ : Shape := ⟨0, ![]⟩
abbrev S1x4096 : Shape := ⟨2, ![1, 4096]⟩
abbrev S1x256 : Shape := ⟨2, ![1, 256]⟩
abbrev S2048x256 : Shape := ⟨2, ![2048, 256]⟩
abbrev S4096x256 : Shape := ⟨2, ![4096, 256]⟩

abbrev nBuf : Space → Nat
  | .hbm => 28
  | .vmem => 19
  | .smem => 0
  | _ => 0

abbrev bufTy : (tb : Table) → Fin (tcTables nBuf tb) → BufTy
  | .hbm, ⟨0, _⟩ => ⟨S2048x4096, .f32⟩
  | .hbm, ⟨1, _⟩ => ⟨S1x64x64x16, .f32⟩
  | .hbm, ⟨2, _⟩ => ⟨S16x64x64x1, .f32⟩
  | .hbm, ⟨3, _⟩ => ⟨S1, .f32⟩
  | .hbm, ⟨4, _⟩ => ⟨S4096, .f32⟩
  | .hbm, ⟨5, _⟩ => ⟨S4096, .f32⟩
  | .hbm, ⟨6, _⟩ => ⟨S4096, .i32⟩
  | .hbm, ⟨7, _⟩ => ⟨S4096, .i32⟩
  | .hbm, ⟨8, _⟩ => ⟨S4096, .f32⟩
  | .hbm, ⟨9, _⟩ => ⟨S4096, .f32⟩
  | .hbm, ⟨10, _⟩ => ⟨S64x64, .f32⟩
  | .hbm, ⟨11, _⟩ => ⟨S64x64x16, .f32⟩
  | .hbm, ⟨12, _⟩ => ⟨S16x64x64, .f32⟩
  | .hbm, ⟨13, _⟩ => ⟨S64x64x64x64, .f32⟩
  | .hbm, ⟨14, _⟩ => ⟨S64x1x64x1, .f32⟩
  | .hbm, ⟨15, _⟩ => ⟨S64x64x64x64, .f32⟩
  | .hbm, ⟨16, _⟩ => ⟨S64x64x64x64, .f32⟩
  | .hbm, ⟨17, _⟩ => ⟨S64x64x64x64, .bf16⟩
  | .hbm, ⟨18, _⟩ => ⟨S64x64x64x64, .bf16⟩
  | .hbm, ⟨19, _⟩ => ⟨S4096x4096, .bf16⟩
  | .hbm, ⟨20, _⟩ => ⟨S_, .f32⟩
  | .hbm, ⟨21, _⟩ => ⟨S1x4096, .f32⟩
  | .hbm, ⟨22, _⟩ => ⟨S1x4096, .i32⟩
  | .hbm, ⟨23, _⟩ => ⟨S2048x4096, .bf16⟩
  | .hbm, ⟨24, _⟩ => ⟨S2048x4096, .bf16⟩
  | .hbm, ⟨25, _⟩ => ⟨S1x4096, .i32⟩
  | .hbm, ⟨26, _⟩ => ⟨S1x4096, .f32⟩
  | .hbm, ⟨27, _⟩ => ⟨S2048x4096, .f32⟩
  | .local _ .vmem, ⟨0, _⟩ => ⟨S2048x4096, .f32⟩
  | .local _ .vmem, ⟨1, _⟩ => ⟨S1x256, .i32⟩
  | .local _ .vmem, ⟨2, _⟩ => ⟨S1x256, .i32⟩
  | .local _ .vmem, ⟨3, _⟩ => ⟨S1x256, .f32⟩
  | .local _ .vmem, ⟨4, _⟩ => ⟨S1x256, .f32⟩
  | .local _ .vmem, ⟨5, _⟩ => ⟨S2048x256, .bf16⟩
  | .local _ .vmem, ⟨6, _⟩ => ⟨S2048x256, .bf16⟩
  | .local _ .vmem, ⟨7, _⟩ => ⟨S2048x4096, .bf16⟩
  | .local _ .vmem, ⟨8, _⟩ => ⟨S4096x256, .bf16⟩
  | .local _ .vmem, ⟨9, _⟩ => ⟨S4096x256, .bf16⟩
  | .local _ .vmem, ⟨10, _⟩ => ⟨S2048x256, .bf16⟩
  | .local _ .vmem, ⟨11, _⟩ => ⟨S2048x256, .bf16⟩
  | .local _ .vmem, ⟨12, _⟩ => ⟨S2048x4096, .bf16⟩
  | .local _ .vmem, ⟨13, _⟩ => ⟨S1x256, .i32⟩
  | .local _ .vmem, ⟨14, _⟩ => ⟨S1x256, .i32⟩
  | .local _ .vmem, ⟨15, _⟩ => ⟨S1x256, .f32⟩
  | .local _ .vmem, ⟨16, _⟩ => ⟨S1x256, .f32⟩
  | .local _ .vmem, ⟨17, _⟩ => ⟨S2048x256, .f32⟩
  | .local _ .vmem, ⟨18, _⟩ => ⟨S2048x256, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem3_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S2048x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S4096x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S2048x4096 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S1x256 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2048x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]
-- ==== ReferenceIdeal.lean ====
abbrev S2048x4096 : Shape := ⟨2, ![2048, 4096]⟩
abbrev S1x64x64x16 : Shape := ⟨4, ![1, 64, 64, 16]⟩
abbrev S16x64x64x1 : Shape := ⟨4, ![16, 64, 64, 1]⟩
abbrev S1 : Shape := ⟨1, ![1]⟩
abbrev S4096 : Shape := ⟨1, ![4096]⟩
abbrev S64x64x16 : Shape := ⟨3, ![64, 64, 16]⟩
abbrev S16x64x64 : Shape := ⟨3, ![16, 64, 64]⟩
abbrev S_ : Shape := ⟨0, ![]⟩
abbrev S4096x1 : Shape := ⟨2, ![4096, 1]⟩
abbrev S2048x64x64 : Shape := ⟨3, ![2048, 64, 64]⟩
abbrev S2048x64x16x64 : Shape := ⟨4, ![2048, 64, 16, 64]⟩
abbrev S64x2048x64 : Shape := ⟨3, ![64, 2048, 64]⟩
abbrev S1x4096 : Shape := ⟨2, ![1, 4096]⟩

abbrev nBuf : Space → Nat
  | .hbm => 41
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S1x64x64x16, .f32⟩
  | .hbm, ⟨2, _⟩ => ⟨S16x64x64x1, .f32⟩
  | .hbm, ⟨3, _⟩ => ⟨S1, .f32⟩
  | .hbm, ⟨4, _⟩ => ⟨S4096, .f32⟩
  | .hbm, ⟨5, _⟩ => ⟨S4096, .f32⟩
  | .hbm, ⟨6, _⟩ => ⟨S4096, .i32⟩
  | .hbm, ⟨7, _⟩ => ⟨S4096, .i32⟩
  | .hbm, ⟨8, _⟩ => ⟨S64x64x16, .f32⟩
  | .hbm, ⟨9, _⟩ => ⟨S16x64x64, .f32⟩
  | .hbm, ⟨10, _⟩ => ⟨S_, .i32⟩
  | .hbm, ⟨11, _⟩ => ⟨S4096, .i32⟩
  | .hbm, ⟨12, _⟩ => ⟨S4096, .i1⟩
  | .hbm, ⟨13, _⟩ => ⟨S_, .i32⟩
  | .hbm, ⟨14, _⟩ => ⟨S4096, .i32⟩
  | .hbm, ⟨15, _⟩ => ⟨S4096, .i32⟩
  | .hbm, ⟨16, _⟩ => ⟨S4096, .i32⟩
  | .hbm, ⟨17, _⟩ => ⟨S4096x1, .i32⟩
  | .hbm, ⟨18, _⟩ => ⟨S2048x4096, .f32⟩
  | .hbm, ⟨19, _⟩ => ⟨S2048x64x64, .f32⟩
  | .hbm, ⟨20, _⟩ => ⟨S2048x64x16x64, .f32⟩
  | .hbm, ⟨21, _⟩ => ⟨S64x2048x64, .f32⟩
  | .hbm, ⟨22, _⟩ => ⟨S2048x64x64, .f32⟩
  | .hbm, ⟨23, _⟩ => ⟨S2048x4096, .f32⟩
  | .hbm, ⟨24, _⟩ => ⟨S4096, .f32⟩
  | .hbm, ⟨25, _⟩ => ⟨S4096, .f32⟩
  | .hbm, ⟨26, _⟩ => ⟨S1x4096, .f32⟩
  | .hbm, ⟨27, _⟩ => ⟨S2048x4096, .f32⟩
  | .hbm, ⟨28, _⟩ => ⟨S2048x4096, .f32⟩
  | .hbm, ⟨29, _⟩ => ⟨S_, .i32⟩
  | .hbm, ⟨30, _⟩ => ⟨S4096, .i32⟩
  | .hbm, ⟨31, _⟩ => ⟨S4096, .i1⟩
  | .hbm, ⟨32, _⟩ => ⟨S_, .i32⟩
  | .hbm, ⟨33, _⟩ => ⟨S4096, .i32⟩
  | .hbm, ⟨34, _⟩ => ⟨S4096, .i32⟩
  | .hbm, ⟨35, _⟩ => ⟨S4096, .i32⟩
  | .hbm, ⟨36, _⟩ => ⟨S4096x1, .i32⟩
  | .hbm, ⟨37, _⟩ => ⟨S2048x4096, .f32⟩
  | .hbm, ⟨38, _⟩ => ⟨S1x4096, .f32⟩
  | .hbm, ⟨39, _⟩ => ⟨S2048x4096, .f32⟩
  | .hbm, ⟨40, _⟩ => ⟨S2048x4096, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_1 : Ref sig .tc := ⟨.hbm, 29, rfl⟩
abbrev main_v19 : Ref sig .tc := ⟨.hbm, 30, rfl⟩
abbrev main_v20 : Ref sig .tc := ⟨.hbm, 31, rfl⟩
abbrev main_c_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== Proof.Algebra.lean ====
/- The rearrangement of sums by which the kernel and the reference agree, over the reals and for finite extended
   reals. -/
module

public import Mathlib.Data.EReal.Operations
public import Mathlib.Algebra.BigOperators.Ring.Finset
public import Mathlib.Tactic.Ring
public import Idealize.ShloMosaic.Lib.Pointwise.Sums

@[expose] public section

namespace Cert.Proof.Algebra

open Idealize.ShloMosaic

/-- A finite sum of real numbers is the same taken among the extended reals. -/
theorem coe_sum {ι : Type*} (s : Finset ι) (f : ι → ℝ) : ((∑ i ∈ s, f i : ℝ) : EReal) = ∑ i ∈ s, (f i : EReal) :=
  map_sum (⟨⟨fun x : ℝ => (x : EReal), EReal.coe_zero⟩, EReal.coe_add⟩ : ℝ →+ EReal) f s

/-- An extended real that is neither infinity. -/
def Finite (x : EReal) : Prop := x ≠ ⊤ ∧ x ≠ ⊥

/-- The product of two finite numbers is finite. -/
theorem Finite.mul {x y : EReal} (hx : Finite x) (hy : Finite y) : Finite (x * y) := by
  lift x to ℝ using hx
  lift y to ℝ using hy
  exact ⟨EReal.coe_ne_top (x * y), EReal.coe_ne_bot (x * y)⟩

/-- THE REARRANGEMENT, over the reals: a row of 4096 = 64·64 numbers times the matrix assembled from the two cores and
    scaled, is the row contracted with the second core, then with the first, then scaled. -/
theorem contract_real (X : Fin 4096 → ℝ) (A : Fin 64 → Fin 16 → ℝ) (B : Fin 16 → Fin 64 → ℝ) (S : ℝ) :
    (∑ q : Fin 4096, X q * ((∑ r, A ⟨q.val / 64, by omega⟩ r * B r ⟨q.val % 64, by omega⟩) * S))
      = (∑ j : Fin 64, ∑ r, A j r * ∑ k : Fin 64, X ⟨j.val * 64 + k.val, by omega⟩ * B r k) * S := by
  rw [Fin.sum_univ_tiles 64 64 rfl, Finset.sum_mul]
  refine Finset.sum_congr rfl fun j _ => ?_
  simp only [Finset.mul_sum, Finset.sum_mul]
  rw [Finset.sum_comm]
  refine Finset.sum_congr rfl fun r _ => Finset.sum_congr rfl fun k _ => ?_
  have e1 : (⟨(j.val * 64 + k.val) / 64, by omega⟩ : Fin 64) = j := Fin.ext (by show (j.val * 64 + k.val) / 64 = j.val; omega)
  have e2 : (⟨(j.val * 64 + k.val) % 64, by omega⟩ : Fin 64) = k := Fin.ext (by show (j.val * 64 + k.val) % 64 = k.val; omega)
  rw [e1, e2]
  ring

/-- The same over the extended reals, every number involved finite. -/
theorem contract (X : Fin 4096 → EReal) (A : Fin 64 → Fin 16 → EReal) (B : Fin 16 → Fin 64 → EReal) (S : EReal)
    (hX : ∀ q, Finite (X q)) (hA : ∀ j r, Finite (A j r)) (hB : ∀ r k, Finite (B r k)) (hS : Finite S) :
    (∑ q : Fin 4096, X q * ((∑ r, A ⟨q.val / 64, by omega⟩ r * B r ⟨q.val % 64, by omega⟩) * S))
      = (∑ j : Fin 64, ∑ r, A j r * ∑ k : Fin 64, X ⟨j.val * 64 + k.val, by omega⟩ * B r k) * S := by
  obtain ⟨X, rfl⟩ : ∃ X' : Fin 4096 → ℝ, X = fun q => (X' q : EReal) :=
    ⟨fun q => (X q).toReal, funext fun q => (EReal.coe_toReal (hX q).1 (hX q).2).symm⟩
  obtain ⟨A, rfl⟩ : ∃ A' : Fin 64 → Fin 16 → ℝ, A = fun j r => (A' j r : EReal) :=
    ⟨fun j r => (A j r).toReal, funext fun j => funext fun r => (EReal.coe_toReal (hA j r).1 (hA j r).2).symm⟩
  obtain ⟨B, rfl⟩ : ∃ B' : Fin 16 → Fin 64 → ℝ, B = fun r k => (B' r k : EReal) :=
    ⟨fun r k => (B r k).toReal, funext fun r => funext fun k => (EReal.coe_toReal (hB r k).1 (hB r k).2).symm⟩
  obtain ⟨S, rfl⟩ : ∃ S' : ℝ, S = (S' : EReal) := ⟨S.toReal, (EReal.coe_toReal hS.1 hS.2).symm⟩
  simp only [← EReal.coe_mul, ← coe_sum]
  rw [contract_real X A B S]

end Cert.Proof.Algebra

end
-- ==== Proof.Blocks.lean ====
/- What each of the kernel's three calls leaves in its result array, as a function of the arrays it finds. -/
module

public import proofs.«01_k».proof.Proof.Gen.KernelIdeal.Frame
public import Idealize.ShloMosaic.Lib.Pointwise
public import Idealize.ShloMosaic.Lib.Pipeline.ValueKit

@[expose] public section

set_option maxRecDepth 16384

noncomputable section

namespace Cert.Proof.Blocks

open Cert.KernelIdeal Cert.KernelIdeal.Gen
open Idealize.ShloMosaic Idealize.ShloMosaic.TcCoe Idealize.SL.Sem
open Idealize.ShloMosaic.Pipeline (Dat)

/-- The one-hot product: entry `(b, n)` is the sum over `k` of `x (b, k)` where `k` is the number at column `n` of
    `p`, plus entry `n` of `a`. -/
def permMul (x : S2048x4096.Idx → EReal) (p : S1x4096.Idx → BitVec 32) (a : S1x4096.Idx → EReal) :
    S2048x4096.Idx → EReal :=
  fun i => (∑ k : Fin 4096, Scalar.select (IntOp.cmpi .eq (BitVec.ofNat 32 k.val) (p (ix2 0 (i 1)))) (x (ix2 (i 0) k)) 0)
    + a (ix2 0 (i 1))

/-- The plain product of two matrices. -/
def matMul (x : S2048x4096.Idx → EReal) (w : S4096x4096.Idx → EReal) : S2048x4096.Idx → EReal :=
  fun i => ∑ k : Fin 4096, x (ix2 (i 0) k) * w (ix2 k (i 1))

/-- At grid point `t` the first call's windows stand at block 0, and at column block `t` for the rest. -/
theorem idx0 : ∀ t : Fin cfg0.N, win0_0.index t = ![0, 0] ∧ win0_1.index t = ![0, t.val] ∧ win0_2.index t = ![0, t.val]
    ∧ win0_3.index t = ![0, t.val] := (by decide +kernel : ∀ t : Fin grid0.N, _)
/-- At grid point `t` the second call's windows stand at block 0, and at column block `t` for the rest. -/
theorem idx1 : ∀ t : Fin cfg1.N, win1_0.index t = ![0, 0] ∧ win1_1.index t = ![0, t.val]
    ∧ win1_2.index t = ![0, t.val] := (by decide +kernel : ∀ t : Fin grid1.N, _)
/-- At grid point `t` the third call's windows stand at block 0, and at column block `t` for the rest. -/
theorem idx2 : ∀ t : Fin cfg2.N, win2_0.index t = ![0, 0] ∧ win2_1.index t = ![0, t.val] ∧ win2_2.index t = ![0, t.val]
    ∧ win2_3.index t = ![0, t.val] := (by decide +kernel : ∀ t : Fin grid2.N, _)

section Regions
variable (V : (c : Dev nD) → (b : Ref sig .tc) → Buf (Elt Ideal) ((c : Thread nD τ).loc b)) (c : Dev nD)

/-- The first call leaves the one-hot product of its operands as it found them. -/
theorem final0 : (dat0 V c).arrAt 3 cfg0.N = permMul (V c main_arg0) (V c main_v13) (V c main_v12) := by
  refine (dat0 V c).arrAt_eq_of_covers 3 _ (by decide +kernel) fun t _ y => ?_
  blk_simp
  rw [after0_3]
  frame_out
  pointwise [k0_pay1, permMul]
  blk_point [iblk0, idx0 t]

/-- The second call leaves the product of its operands as it found them. -/
theorem final1 : (dat1 V c).arrAt 2 cfg1.N = matMul (V c main_v14) (V c main_v11) := by
  refine (dat1 V c).arrAt_eq_of_covers 2 _ (by decide +kernel) fun t _ y => ?_
  blk_simp
  rw [after1_2]
  frame_out
  pointwise [k1_pay1, matMul]
  blk_point [iblk1, idx1 t]

/-- The third call leaves the one-hot product of its operands as it found them. -/
theorem final2 : (dat2 V c).arrAt 3 cfg2.N = permMul (V c main_v15) (V c main_v16) (V c main_v17) := by
  refine (dat2 V c).arrAt_eq_of_covers 3 _ (by decide +kernel) fun t _ y => ?_
  blk_simp
  rw [after2_3]
  frame_out
  pointwise [k2_pay1, permMul]
  blk_point [iblk2, idx2 t]
end Regions

end Cert.Proof.Blocks

end
-- ==== Proof.KernelRun.lean ====
/- The kernel's whole program over the extended reals: its run, and its result as a function of the arguments. -/
module

public import proofs.«01_k».proof.Proof.Blocks
public import Idealize.ShloMosaic.Lib.Claim

@[expose] public section

set_option maxRecDepth 16384

noncomputable section

namespace Cert.Proof.KernelRun

open Cert.KernelIdeal Cert.KernelIdeal.Gen Cert.Proof.Blocks
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The weight matrix as the host computes it from the two cores, the scale and the per-dimension scales: before the
    reshape to a square matrix, axes `(j, k, i, m)`. -/
def weight4 (g0 : S1x64x64x16.Idx → EReal) (g1 : S16x64x64x1.Idx → EReal) (al : S1.Idx → EReal) (s : S4096.Idx → EReal) :
    S64x64x64x64.Idx → EReal :=
  transpose S64x64x64x64 [1, 3, 0, 2]
    (truncf (F := Ideal) .bf16
      (mulf (F := Ideal) (φ := .f32)
        (Host.dotGeneral (F := Ideal) (φ₁ := .f32) (φ₂ := .f32) dot_S64x64x16_S16x64x64_S64x64x64x64_2_0_01_12_n_n none
          (shapeCast _ g0 shapeCasts_S1x64x64x16_S64x64x16) (shapeCast _ g1 shapeCasts_S16x64x64x1_S16x64x64))
        (broadcastInDim S64x64x64x64 ![0, 1, 2, 3] bcast_S64x1x64x1_S64x64x64x64_0_1_2_3
          (broadcastInDim S64x1x64x1 ![0, 2] bcast_S64x64_S64x1x64x1_0_2
            (shapeCast _ (mulf (F := Ideal) (φ := .f32) (broadcastInDim S4096 ![0] bcast_S1_S4096_0 al) s) shapeCasts_S4096_S64x64))))
      bitsLt_bf16_f32)
    transposes_S64x64x64x64_S64x64x64x64_1_3_0_2

/-- The weight matrix the second call multiplies by. -/
def weight (g0 : S1x64x64x16.Idx → EReal) (g1 : S16x64x64x1.Idx → EReal) (al : S1.Idx → EReal) (s : S4096.Idx → EReal) :
    S4096x4096.Idx → EReal :=
  shapeCast _ (weight4 g0 g1 al s) shapeCasts_S64x64x64x64_S4096x4096

/-- What the kernel computes from its arguments: permute the columns of `x` by a one-hot product, multiply by the
    weight matrix, permute the columns again and add the bias. -/
def out (x : S2048x4096.Idx → EReal) (g0 : S1x64x64x16.Idx → EReal) (g1 : S16x64x64x1.Idx → EReal) (al : S1.Idx → EReal)
    (s bias : S4096.Idx → EReal) (ip op : S4096.Idx → BitVec 32) : S2048x4096.Idx → EReal :=
  permMul
    (matMul
      (permMul x (shapeCast _ ip shapeCasts_S4096_S1x4096)
        (broadcastInDim S1x4096 ![] bcast_S_S1x4096 (constant (F := Ideal) S_ .f32 0x00000000#32)))
      (weight g0 g1 al s))
    (shapeCast _ op shapeCasts_S4096_S1x4096) (shapeCast _ bias shapeCasts_S4096_S1x4096)

variable (m : (ℓ : Loc nD τ sig) → Buf (Elt Ideal) ℓ) (ρ : Dev nD → PrngReg) (c : Dev nD)

/-- Entering the first call, the host has the weight matrix computed. -/
theorem V1_main_v11 : V1 m ρ c main_v11 = weight (m ((c : Thread nD τ).loc main_arg1)) (m ((c : Thread nD τ).loc main_arg2))
    (m ((c : Thread nD τ).loc main_arg3)) (m ((c : Thread nD τ).loc main_arg4)) := by
  unfold V1 W1
  after_results
  rfl

/-- Entering the first call, its addend is a row of zeros. -/
theorem V1_main_v12 : V1 m ρ c main_v12
    = broadcastInDim S1x4096 ![] bcast_S_S1x4096 (constant (F := Ideal) S_ .f32 0x00000000#32) := by
  unfold V1 W1
  after_results

/-- Entering the first call, the input indices stand as a row. -/
theorem V1_main_v13 : V1 m ρ c main_v13 = shapeCast _ (m ((c : Thread nD τ).loc main_arg6)) shapeCasts_S4096_S1x4096 := by
  unfold V1 W1
  after_results
  rfl

/-- Every argument is a lasting buffer. -/
theorem args_unscoped : ∀ a ∈ argRefs, ¬ (Proc.devRef .tc a : DevRef τ sig).isScoped := by decide

/-- The last call's result, through the calls before it. -/
theorem W5_main_v18 : W5 m ρ c (Proc.devRef .tc main_v18)
    = out (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  have h14 : V2 m ρ c main_v14 = _ := (W2_arr m ρ c 3).trans (final0 (V1 m ρ) c)
  have h11 : V2 m ρ c main_v11 = V1 m ρ c main_v11 := W2_of m ρ c main_v11 (by decide)
  have h15 : V4 m ρ c main_v15 = _ :=
    (W4_of m ρ c main_v15 (by decide)).trans ((W3_arr m ρ c 2).trans (final1 (V2 m ρ) c))
  have h16 : V4 m ρ c main_v16 = shapeCast _ (W3 m ρ c (Proc.devRef .tc main_arg7)) shapeCasts_S4096_S1x4096 := by
    unfold V4 W4
    after_results
    rfl
  have h17 : V4 m ρ c main_v17 = shapeCast _ (W3 m ρ c (Proc.devRef .tc main_arg5)) shapeCasts_S4096_S1x4096 := by
    unfold V4 W4
    after_results
    rfl
  have h0 : V1 m ρ c main_arg0 = m ((c : Thread nD τ).loc main_arg0) := W1_args m ρ c main_arg0 (by decide)
  have h7 : W3 m ρ c (Proc.devRef .tc main_arg7) = m ((c : Thread nD τ).loc main_arg7) := W3_args m ρ c main_arg7 (by decide)
  have h5 : W3 m ρ c (Proc.devRef .tc main_arg5) = m ((c : Thread nD τ).loc main_arg5) := W3_args m ρ c main_arg5 (by decide)
  refine (W5_arr m ρ c 3).trans ((final2 (V4 m ρ) c).trans ?_)
  rw [h15, h16, h17, h7, h5, h14, h11, h0, V1_main_v11, V1_main_v12, V1_main_v13]
  rfl

set_option backward.isDefEq.respectTransparency.types false in
/-- Every run of the kernel's program ends with each of the TensorCore's lasting buffers at its contents after the
    last call. -/
theorem reads : θ_run defs (onTc (τ := τ) (main (F := Ideal))) ⟨m, fun _ => 0, ρ⟩
    (fun r => ∀ (c : Dev nD), ∀ b ∈ Pipeline.ucRefs τ sig, r.2.mem (((c : Thread nD τ)).1, b) = W5 m ρ c b) := by
  refine Pipeline.θ_run_regions_kit_sems (pcfgs (F := Ideal)) adm (pdats m ρ) () cellOf_inj emb₁ defs₀ 𝒱₀ L lv m ρ main
    (segs m ρ) (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj)) (hu₀ := ?_)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩) (hinit := ?_)
    (QY := fun c s => ∀ b ∈ Pipeline.ucRefs τ sig, s.mem (((c : Thread nD τ)).1, b) = W5 m ρ c b) (hfin := ?_)
    (hQ := fun s h _ c => h c)
  · iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · refine Pipeline.initEach L lv fun c => ?_
    rw [show unscopedBufs c (fun b => m ((c : Thread nD τ).loc b)) = StableHlo.held (c : Thread nD τ) (Pipeline.ucRefs τ sig) (W0 m ρ c)
      from Pipeline.unscopedBufs_held c (W0 m ρ c)]
    iintro ⟨⟨Hh, -, HO, -, Hp, -⟩, -⟩
    imodintro
    isplitl [Hh]; · iexact Hh
    isplitl [Hp]; · iexists _; iexact Hp
    iexists ∅; iexact HO
  · intro c s'
    iintro ⟨⟨Hh, -⟩, HSI⟩
    unfold StableHlo.held
    imodintro
    iapply (pointsTo_read_all (Pipeline.ucRefs τ sig) (fun b => (((c : Thread nD τ)).1, b)) (W5 m ρ c) s')
    isplitl [Hh] <;> iassumption

/-- Every run of the kernel's program ends with the result at `out` of the arguments and with the arguments
    unchanged. -/
theorem run : θ_run defs (onTc (τ := τ) (main (F := Ideal))) ⟨m, fun _ => 0, ρ⟩ (fun r => ∀ c : Dev nD,
      r.2.mem ((c.tc : Thread nD τ).loc main_v18)
        = out (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7))
      ∧ ∀ a ∈ argRefs, r.2.mem ((c.tc : Thread nD τ).loc a) = m ((c.tc : Thread nD τ).loc a)) :=
  θ_run_mono (reads m ρ) fun r h c =>
    ⟨(h c _ (mem_uc main_v18 (by decide))).trans (W5_main_v18 m ρ c),
      fun a ha => (h c _ (mem_uc a (args_unscoped a ha))).trans (W5_args m ρ c a ha)⟩

end Cert.Proof.KernelRun

end
-- ==== Proof.Entries.lean ====
/- The kernel's and the reference's results read at a row and a column, and their equality. -/
module

public import proofs.«01_k».proof.Proof.Algebra
public import proofs.«01_k».proof.Proof.KernelRun
public import proofs.«01_k».proof.Proof.Gen.ReferenceIdeal.Read

@[expose] public section

set_option maxRecDepth 16384

noncomputable section

namespace Cert.Proof.Entries

open Cert.Proof.Algebra Cert.Proof.Blocks Cert.Proof.KernelRun
open Idealize.ShloMosaic Idealize.ShloMosaic.TcCoe Idealize.SL.Sem

/-! ## A selected index: the one-hot sum and the gather -/

/-- An index of `p` is the number of one of the 4096 features. -/
def InRange (p : BitVec 32) : Prop := p.toNat < 4096

/-- The sum over the features that keeps only the term whose number is `p` is that term. -/
theorem sum_select (p : BitVec 32) (h : InRange p) (f : Fin 4096 → EReal) :
    (∑ k : Fin 4096, Scalar.select (IntOp.cmpi .eq (BitVec.ofNat 32 k.val) p) (f k) 0) = f ⟨p.toNat, h⟩ := by
  rw [Finset.sum_eq_single (⟨p.toNat, h⟩ : Fin 4096)]
  · simp [Scalar.select, IntOp.cmpi]
  · intro k _ hk
    have : ¬ BitVec.ofNat 32 k.val = p := fun e => hk (Fin.ext (by
      have := congrArg BitVec.toNat e
      rw [BitVec.toNat_ofNat, Nat.mod_eq_of_lt (by omega)] at this
      exact this))
    simp only [Scalar.select, IntOp.cmpi, beq_false_of_ne this]
    rfl
  · intro hk; exact absurd (Finset.mem_univ _) hk

/-- An index in range is not negative, so the wrapping of negative indices leaves it alone. -/
theorem wrap_eq (p : BitVec 32) (h : InRange p) :
    Scalar.select (IntOp.cmpi .slt p 0#32) (IntOp.addi p 4096#32) p = p := by
  have h' : p.toNat < 4096 := h
  have : p.slt 0#32 = false := by
    rw [BitVec.slt_eq_decide, decide_eq_false_iff_not, BitVec.toInt_eq_toNat_of_lt (by omega)]
    simp
  simp [Scalar.select, IntOp.cmpi, this]

/-- An index in range, read signed and clamped into the features, is its number. -/
theorem clamp_eq (p : BitVec 32) (h : InRange p) : min p.toInt.toNat 4095 = p.toNat := by
  have h' : p.toNat < 4096 := h
  rw [BitVec.toInt_eq_toNat_of_lt (by omega), Int.toNat_natCast]
  omega

section
open Cert.ReferenceIdeal Cert.ReferenceIdeal.Gen

/-- THE COLUMN GATHER READ AT AN INDEX: row `b`, and the column whose number the index array holds, read signed and
    clamped into the features. -/
theorem gather_apply (x : S2048x4096.Idx → EReal) (idx : IVec S4096x1 32) (i : S2048x4096.Idx) :
    Host.gather gather_S2048x4096_S4096x1_S2048x4096_0_1_n_n_1_1_20481 x idx i
      = x (ix2 (i 0) ⟨min (idx (ix2 (i 1) 0)).toInt.toNat 4095, by omega⟩) := by
  unfold Host.gather
  congr 1
  funext a
  refine Fin.ext ?_
  show GatherDims.start _ i idx a + GatherDims.batchCoord _ i a + GatherDims.offCoord _ i a = _
  have h01 : a = 0 ∨ a = 1 := by
    match a with
    | ⟨0, _⟩ => exact Or.inl rfl
    | ⟨1, _⟩ => exact Or.inr rfl
  rw [GatherDims.batchCoord_eq_zero _ _ _ (by exact List.not_mem_nil)]
  rcases h01 with rfl | rfl
  · unfold GatherDims.start GatherDims.offCoord
    rw [dif_neg (by decide), dif_pos (by decide)]
    exact (Nat.zero_add _).trans rfl
  · rw [GatherDims.offCoord_eq_zero _ _ _ (fun h => ((GatherDims.mem_sKept _ _).mp h).1 (List.mem_singleton.mpr rfl))]
    unfold GatherDims.start
    rw [dif_pos (by exact List.mem_singleton.mpr rfl)]
    have hsi : GatherDims.siIdx gather_S2048x4096_S4096x1_S2048x4096_0_1_n_n_1_1_20481 i
        ⟨List.idxOf (1 : Fin 2) [1], List.idxOf_lt_length_iff.2 (List.mem_singleton.mpr rfl)⟩ = ix2 (i 1) 0 := by
      funext b
      refine Fin.ext ?_
      match b with
      | ⟨0, _⟩ => rfl
      | ⟨1, _⟩ => rfl
    exact congrArg (fun z => min (idx z).toInt.toNat 4095) hsi

end

/-! ## The kernel's result at an index -/

section
open Cert.KernelIdeal Cert.KernelIdeal.Gen

/-- The feature an index array names at column `n`. -/
def feature (p : S4096.Idx → BitVec 32) (hp : ∀ n, InRange (p n)) (n : Fin 4096) : Fin 4096 := ⟨(p (ix1 n)).toNat, hp _⟩

/-- The weight matrix at row `q = (j, k)` and column `n = (i, m)`: the two cores contracted over the rank, scaled. -/
theorem weight_apply (g0 : S1x64x64x16.Idx → EReal) (g1 : S16x64x64x1.Idx → EReal) (al : S1.Idx → EReal)
    (s : S4096.Idx → EReal) (q n : Fin 4096) :
    weight g0 g1 al s (ix2 q n)
      = (∑ r : Fin 16, g0 (ix4 0 ⟨n.val / 64, by omega⟩ ⟨q.val / 64, by omega⟩ r)
          * g1 (ix4 r ⟨n.val % 64, by omega⟩ ⟨q.val % 64, by omega⟩ 0)) * (al (ix1 0) * s (ix1 n)) := by
  pointwise [weight, weight4]

/-- The first one-hot product permutes the columns. -/
theorem permIn_apply (x : S2048x4096.Idx → EReal) (ip : S4096.Idx → BitVec 32) (hip : ∀ n, InRange (ip n))
    (b : Fin 2048) (q : Fin 4096) :
    permMul x (shapeCast _ ip shapeCasts_S4096_S1x4096)
        (broadcastInDim S1x4096 ![] bcast_S_S1x4096 (constant (F := Ideal) S_ .f32 0x00000000#32)) (ix2 b q)
      = x (ix2 b (feature ip hip q)) := by
  refine Eq.trans ?_ (sum_select (ip (ix1 q)) (hip _) fun k => x (ix2 b k))
  pointwise [permMul]

/-- The last one-hot product permutes the columns, and adds the bias. -/
theorem permOut_apply (y : S2048x4096.Idx → EReal) (op : S4096.Idx → BitVec 32) (hop : ∀ n, InRange (op n))
    (bias : S4096.Idx → EReal) (b : Fin 2048) (n : Fin 4096) :
    permMul y (shapeCast _ op shapeCasts_S4096_S1x4096) (shapeCast _ bias shapeCasts_S4096_S1x4096) (ix2 b n)
      = y (ix2 b (feature op hop n)) + bias (ix1 n) := by
  refine Eq.trans ?_ (congrArg (· + bias (ix1 n)) (sum_select (op (ix1 n)) (hop _) fun k => y (ix2 b k)))
  pointwise [permMul]

end

/-! ## The reference's result at an index -/

section
open Cert.ReferenceIdeal Cert.ReferenceIdeal.Gen Cert.ReferenceIdeal.Read

/-- The reference's input gather permutes the columns. -/
theorem refIn_apply (x : S2048x4096.Idx → EReal) (ip : S4096.Idx → BitVec 32) (hip : ∀ n, InRange (ip n))
    (b : Fin 2048) (q : Fin 4096) :
    val_main_v8 (F := Ideal) x ip (ix2 b q) = x (ix2 b (feature ip hip q)) := by
  have hw : val_main_v7 (F := Ideal) ip (ix2 q 0) = ip (ix1 q) := by
    refine Eq.trans ?_ (wrap_eq (ip (ix1 q)) (hip _))
    unfold val_main_v7 val_main_v6 val_main_v5 val_main_v4 val_main_v3 val_main_v2 val_main_c_0 val_main_c
    pointwise []
  refine (gather_apply x (val_main_v7 (F := Ideal) ip) (ix2 b q)).trans (congrArg (fun k => x (ix2 b k)) (Fin.ext ?_))
  show min (val_main_v7 (F := Ideal) ip (ix2 q 0)).toInt.toNat 4095 = (ip (ix1 q)).toNat
  rw [hw, clamp_eq _ (hip _)]

/-- The reference's two contractions and its scaling at column `n = (i, m)`, of the permuted input. -/
theorem refMid_apply (x : S2048x4096.Idx → EReal) (g0 : S1x64x64x16.Idx → EReal) (g1 : S16x64x64x1.Idx → EReal)
    (al : S1.Idx → EReal) (s : S4096.Idx → EReal) (ip : S4096.Idx → BitVec 32) (b : Fin 2048) (n : Fin 4096) :
    val_main_v18 (F := Ideal) x g0 g1 al s ip (ix2 b n)
      = (∑ j : Fin 64, ∑ r : Fin 16, g0 (ix4 0 ⟨n.val / 64, by omega⟩ j r)
          * ∑ k : Fin 64, val_main_v8 (F := Ideal) x ip (ix2 b ⟨j.val * 64 + k.val, by omega⟩)
              * g1 (ix4 r ⟨n.val % 64, by omega⟩ k 0)) * (al (ix1 0) * s (ix1 n)) := by
  unfold val_main_v18 val_main_v13 val_main_v12 val_main_v11 val_main_v10 val_main_v9 val_main_v17 val_main_v16
    val_main_v15 val_main_v14 val_main_v1 val_main_v0
  generalize val_main_v8 (F := Ideal) x ip = y
  pointwise []

/-- The reference's output gather permutes the columns, and the bias is added. -/
theorem refOut_apply (x : S2048x4096.Idx → EReal) (g0 : S1x64x64x16.Idx → EReal) (g1 : S16x64x64x1.Idx → EReal)
    (al : S1.Idx → EReal) (s bias : S4096.Idx → EReal) (ip op : S4096.Idx → BitVec 32) (hop : ∀ n, InRange (op n))
    (b : Fin 2048) (n : Fin 4096) :
    val_main_v28 (F := Ideal) x g0 g1 al s bias ip op (ix2 b n)
      = val_main_v18 (F := Ideal) x g0 g1 al s ip (ix2 b (feature op hop n)) + bias (ix1 n) := by
  have hw : val_main_v24 (F := Ideal) op (ix2 n 0) = op (ix1 n) := by
    refine Eq.trans ?_ (wrap_eq (op (ix1 n)) (hop _))
    unfold val_main_v24 val_main_v23 val_main_v22 val_main_v21 val_main_v20 val_main_v19 val_main_c_2 val_main_c_1
    pointwise []
  have hg : val_main_v25 (F := Ideal) x g0 g1 al s ip op (ix2 b n)
      = val_main_v18 (F := Ideal) x g0 g1 al s ip (ix2 b (feature op hop n)) := by
    refine (gather_apply _ (val_main_v24 (F := Ideal) op) (ix2 b n)).trans
      (congrArg (fun k => val_main_v18 (F := Ideal) x g0 g1 al s ip (ix2 b k)) (Fin.ext ?_))
    show min (val_main_v24 (F := Ideal) op (ix2 n 0)).toInt.toNat 4095 = (op (ix1 n)).toNat
    rw [hw, clamp_eq _ (hop _)]
  rw [← hg]
  unfold val_main_v28 val_main_v27 val_main_v26
  generalize val_main_v25 (F := Ideal) x g0 g1 al s ip op = y
  pointwise []

end

/-- The two results agree at row `b` and column `n`, for finite factors and for indices in range. -/
theorem out_eq_at (x : Cert.KernelIdeal.S2048x4096.Idx → EReal) (g0 : Cert.KernelIdeal.S1x64x64x16.Idx → EReal)
    (g1 : Cert.KernelIdeal.S16x64x64x1.Idx → EReal) (al : Cert.KernelIdeal.S1.Idx → EReal)
    (s bias : Cert.KernelIdeal.S4096.Idx → EReal) (ip op : Cert.KernelIdeal.S4096.Idx → BitVec 32)
    (hx : ∀ i, Finite (x i)) (h0 : ∀ i, Finite (g0 i)) (h1 : ∀ i, Finite (g1 i)) (ha : ∀ i, Finite (al i))
    (hs : ∀ i, Finite (s i)) (hip : ∀ n, InRange (ip n)) (hop : ∀ n, InRange (op n))
    (b : Fin 2048) (n : Fin 4096) :
    out x g0 g1 al s bias ip op (ix2 b n)
      = Cert.ReferenceIdeal.Read.val_main_v28 (F := Ideal) x g0 g1 al s bias ip op (ix2 b n) := by
  refine Eq.trans ?_ (refOut_apply x g0 g1 al s bias ip op hop b n).symm
  refine (permOut_apply _ op hop bias b n).trans (congrArg (· + bias (ix1 n)) ?_)
  generalize feature op hop n = n'
  refine Eq.trans ?_ (refMid_apply x g0 g1 al s ip b n').symm
  simp only [refIn_apply x ip hip]
  refine Eq.trans ?_ (contract (fun q => x (ix2 b (feature ip hip q)))
    (fun j r => g0 (ix4 0 ⟨n'.val / 64, by omega⟩ j r)) (fun r k => g1 (ix4 r ⟨n'.val % 64, by omega⟩ k 0))
    (al (ix1 0) * s (ix1 n')) (fun _ => hx _) (fun _ _ => h0 _) (fun _ _ => h1 _) ((ha _).mul (hs _)))
  unfold matMul
  refine Finset.sum_congr rfl fun q _ => ?_
  exact congrArg₂ (· * ·) (permIn_apply x ip hip b q) (weight_apply g0 g1 al s q n')

/-- THE TWO RESULTS AGREE, for finite factors and for indices in range. -/
theorem out_eq (x : Cert.KernelIdeal.S2048x4096.Idx → EReal) (g0 : Cert.KernelIdeal.S1x64x64x16.Idx → EReal)
    (g1 : Cert.KernelIdeal.S16x64x64x1.Idx → EReal) (al : Cert.KernelIdeal.S1.Idx → EReal)
    (s bias : Cert.KernelIdeal.S4096.Idx → EReal) (ip op : Cert.KernelIdeal.S4096.Idx → BitVec 32)
    (hx : ∀ i, Finite (x i)) (h0 : ∀ i, Finite (g0 i)) (h1 : ∀ i, Finite (g1 i)) (ha : ∀ i, Finite (al i))
    (hs : ∀ i, Finite (s i)) (hip : ∀ n, InRange (ip n)) (hop : ∀ n, InRange (op n)) :
    out x g0 g1 al s bias ip op = Cert.ReferenceIdeal.Read.val_main_v28 (F := Ideal) x g0 g1 al s bias ip op :=
  funext fun i => (congrArg _ (eq_ix2 i)).trans
    ((out_eq_at x g0 g1 al s bias ip op hx h0 h1 ha hs hip hop (i 0) (i 1)).trans (congrArg _ (eq_ix2 i).symm))

end Cert.Proof.Entries

end
-- ==== Proof.Pre.lean ====
/- What the precondition says of the arguments. -/
module

public import proofs.«01_k».proof.Proof.Entries
public import proofs.«01_k».proof.Proof.Gen.Pre_finite_and_in_range

@[expose] public section

set_option maxRecDepth 16384

noncomputable section

namespace Cert.Proof.Pre

open Cert.Proof.Algebra Cert.Proof.Entries
open Idealize.ShloMosaic Idealize.ShloMosaic.TcCoe Idealize.SL.Sem

/-- Two comparisons that are both true, joined by "and". -/
theorem and_one (a b : BitVec 1) (h : IntOp.andi a b = 1#1) : a = 1#1 ∧ b = 1#1 := by
  revert a b; decide

/-- An extended real above minus infinity and below plus infinity is finite. -/
theorem finite_of_cmp (x : EReal)
    (h : IntOp.andi (Ideal.cmp .ogt x (Ideal.ofBits .f32 0xFF800000#32)) (Ideal.cmp .olt x (Ideal.ofBits .f32 0x7F800000#32)) = 1#1) :
    Finite x := by
  obtain ⟨h1, h2⟩ := and_one _ _ h
  have hb : Ideal.ofBits .f32 0xFF800000#32 = (⊥ : EReal) := by simp [Ideal.ofBits, Ideal.ieee]
  have ht : Ideal.ofBits .f32 0x7F800000#32 = (⊤ : EReal) := by simp [Ideal.ofBits, Ideal.ieee]
  rw [hb] at h1
  rw [ht] at h2
  refine ⟨?_, ?_⟩ <;> rintro rfl
  · simp [Ideal.cmp] at h2
  · simp [Ideal.cmp] at h1

/-- A number at least zero and below 4096, compared signed, is in range. -/
theorem inRange_of_cmp (p : BitVec 32)
    (h : IntOp.andi (IntOp.cmpi .sge p 0#32) (IntOp.cmpi .slt p 4096#32) = 1#1) : InRange p := by
  have h' : p.toNat < 4096 := by
    revert h
    simp only [IntOp.andi, IntOp.cmpi]
    intro h
    obtain ⟨h1, h2⟩ := and_one _ _ h
    have e1 : (0#32).sle p = true := by
      cases e : (0#32).sle p with
      | true => rfl
      | false => simp [e] at h1
    have e2 : p.slt 4096#32 = true := by
      cases e : p.slt 4096#32 with
      | true => rfl
      | false => simp [e] at h2
    rw [BitVec.sle_eq_decide, decide_eq_true_eq] at e1
    rw [BitVec.slt_eq_decide, decide_eq_true_eq] at e2
    have := BitVec.toInt_eq_toNat_cond p
    have h0 : (0#32).toInt = 0 := by decide
    have h4 : (4096#32).toInt = 4096 := by decide
    rw [h0] at e1
    rw [h4] at e2
    split at this <;> omega
  exact h'

open Cert.Pre_finite_and_in_range Cert.Pre_finite_and_in_range.Gen in
/-- What the precondition says of the arguments. -/
theorem of_fn (x : S2048x4096.Idx → EReal) (g0 : S1x64x64x16.Idx → EReal) (g1 : S16x64x64x1.Idx → EReal)
    (al : S1.Idx → EReal) (s bias : S4096.Idx → EReal) (ip op : S4096.Idx → BitVec 32)
    (h : (fn (F := Ideal) x g0 g1 al s bias ip op).1 = (fun _ => 1#1)
      ∧ (fn (F := Ideal) x g0 g1 al s bias ip op).2.1 = (fun _ => 1#1)
      ∧ (fn (F := Ideal) x g0 g1 al s bias ip op).2.2.1 = (fun _ => 1#1)
      ∧ (fn (F := Ideal) x g0 g1 al s bias ip op).2.2.2.1 = (fun _ => 1#1)
      ∧ (fn (F := Ideal) x g0 g1 al s bias ip op).2.2.2.2.1 = (fun _ => 1#1)
      ∧ (fn (F := Ideal) x g0 g1 al s bias ip op).2.2.2.2.2.1 = (fun _ => 1#1)
      ∧ (fn (F := Ideal) x g0 g1 al s bias ip op).2.2.2.2.2.2 = (fun _ => 1#1)) :
    (∀ i, Finite (x i)) ∧ (∀ i, Finite (g0 i)) ∧ (∀ i, Finite (g1 i)) ∧ (∀ i, Finite (al i)) ∧ (∀ i, Finite (s i))
      ∧ (∀ n, InRange (ip n)) ∧ (∀ n, InRange (op n)) :=
  ⟨fun i => finite_of_cmp _ (congrFun h.1 i), fun i => finite_of_cmp _ (congrFun h.2.1 i),
    fun i => finite_of_cmp _ (congrFun h.2.2.1 i), fun i => finite_of_cmp _ (congrFun h.2.2.2.1 i),
    fun i => finite_of_cmp _ (congrFun h.2.2.2.2.1 i), fun n => inRange_of_cmp _ (congrFun h.2.2.2.2.2.1 n),
    fun n => inRange_of_cmp _ (congrFun h.2.2.2.2.2.2 n)⟩

end Cert.Proof.Pre

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_and_in_range
public import proofs.«01_k».proof.Proof.Pre
public import Idealize.ShloMosaic.Adequacy
public import Idealize.ShloMosaic.Init

@[expose] public section

noncomputable section

namespace Cert.Proof

open Idealize.ShloMosaic Idealize.ShloMosaic.TcCoe Idealize.SL.Sem

/-- The reference's frame: every run ends with the arguments unchanged, and the program declares no semaphore. -/
theorem frame_reference : Cert.quiescent_ReferenceIdeal := fun m ρ _ =>
  θ_run_mono (Cert.ReferenceIdeal.Value.run m ρ) fun r h => ⟨fun c => (h c).2, sem_eq_zero_of_no_sems (by decide) r.2⟩

/-- The kernel at the extended reals and the reference end with equal results, under the precondition. -/
theorem results_eq : Cert.algebraic_KernelIdeal_ReferenceIdeal_pre_finite_and_in_range := by
  intro m ρ m' ρ' hpre hag
  refine ⟨fun c => KernelRun.out _ _ _ _ _ _ _ _, θ_run_mono (KernelRun.run m ρ) fun r h c => ⟨(h c).1, ?_⟩,
    θ_run_mono (Cert.ReferenceIdeal.Value.run m' ρ') fun r h c => ⟨?_, (h c).2⟩⟩
  · have ha := (h c).2
    exact ⟨ha _ (by decide), ha _ (by decide), ha _ (by decide), ha _ (by decide), ha _ (by decide), ha _ (by decide),
      ha _ (by decide), ha _ (by decide)⟩
  · obtain ⟨hx, h0, h1, hal, hs, hip, hop⟩ := Pre.of_fn _ _ _ _ _ _ _ _ (hpre c)
    obtain ⟨e0, e1, e2, e3, e4, e5, e6, e7⟩ := hag c
    refine ((h c).1.trans (Cert.ReferenceIdeal.Read.val_main_v28_eq _ _ _ _ _ _ _ _)).trans ?_
    rw [e0, e1, e2, e3, e4, e5, e6, e7]
    exact (Entries.out_eq _ _ _ _ _ _ _ _ hx h0 h1 hal hs hip hop).symm

/-- Everything this certificate claims. -/
theorem claim : Cert.Claim :=
  ⟨Cert.Kernel.Gen.facts, Cert.KernelIdeal.Gen.facts, Cert.ReferenceIdeal.Gen.facts, Cert.Pre_finite_and_in_range.Gen.facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial,
    trivial, results_eq⟩

end Cert.Proof

end
